-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_regular [hPre_regular : Cert.Pre_regular.Facts] (m : (ℓ : Loc Cert.KernelIdeal.nD Cert.KernelIdeal.τ Cert.KernelIdeal.sig) → Buf (Elt Ideal) ℓ) : Prop :=
  ∀ c : Dev Cert.KernelIdeal.nD,
    (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_regular [hPre_regular : Cert.Pre_regular.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_regular [hKernelIdeal : Cert.KernelIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_regular m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_regular [hReferenceIdeal : Cert.ReferenceIdeal.Facts] [hPre_regular : Cert.Pre_regular.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_regular m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_regular [hKernelIdeal : Cert.KernelIdeal.Facts] [hReferenceIdeal : Cert.ReferenceIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_regular m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)) (v5 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_v0_0) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v8) = v2 c
          ∧ r.2.mem ((c.tc : Thread Cert.ReferenceIdeal.nD Cert.ReferenceIdeal.τ).loc Cert.ReferenceIdeal.main_v6) = v3 c
          ∧ r.2.mem ((c.tc : Thread Cert.ReferenceIdeal.nD Cert.ReferenceIdeal.τ).loc Cert.ReferenceIdeal.main_v13) = v4 c
          ∧ r.2.mem ((c.tc : Thread Cert.ReferenceIdeal.nD Cert.ReferenceIdeal.τ).loc Cert.ReferenceIdeal.main_v2) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_regular : Cert.Pre_regular.Facts),
    quiescent_Kernel (hKernel := hKernel)
    ∧ quiescent_KernelIdeal (hKernelIdeal := hKernelIdeal)
    ∧ quiescent_KernelIdeal_pre_regular (hKernelIdeal := hKernelIdeal) (hPre_regular := hPre_regular)
    ∧ quiescent_ReferenceIdeal (hReferenceIdeal := hReferenceIdeal)
    ∧ quiescent_ReferenceIdeal_pre_regular (hReferenceIdeal := hReferenceIdeal) (hPre_regular := hPre_regular)
    ∧ preserves_Kernel_KernelIdeal
    ∧ algebraic_KernelIdeal_ReferenceIdeal_pre_regular (hKernelIdeal := hKernelIdeal) (hReferenceIdeal := hReferenceIdeal) (hPre_regular := hPre_regular)
-- ==== Pre_regular.lean ====
abbrev S8192x16x128 : Shape := ⟨3, ![8192, 16, 128]⟩
abbrev S16x128x128 : Shape := ⟨3, ![16, 128, 128]⟩
abbrev S16x128x32 : Shape := ⟨3, ![16, 128, 32]⟩
abbrev S16x128 : Shape := ⟨2, ![16, 128]⟩
abbrev S_ : Shape := ⟨0, ![]⟩

class Facts : Prop where
  bcast_S_S8192x16x128 : S_.BroadcastsInDim S8192x16x128 (![] : Fin 0 → Fin S8192x16x128.rank)
  reducesTo_S16x128x128_S16x128_d1 : S16x128x128.ReducesTo [1] S16x128
  h_S_ : 0 < S_.numel
  bcast_S_S16x128 : S_.BroadcastsInDim S16x128 (![] : Fin 0 → Fin S16x128.rank)
  bcast_S_S16x128x32 : S_.BroadcastsInDim S16x128x32 (![] : Fin 0 → Fin S16x128x32.rank)

variable [Facts]

def fn {F : FTy → Type} [FloatOps F] (main_arg0 : FVec F S8192x16x128 .f32) (main_arg1 : FVec F S16x128x128 .f32) (main_arg2 : FVec F S16x128x32 .f32) (main_arg3 : FVec F S16x128 .f32) : IVec S8192x16x128 1 × IVec S16x128 1 × IVec S16x128x32 1 :=
  let main_v0 : FVec F S8192x16x128 .f32 := Host.absf main_arg0
  let main_cst : FVec F S_ .f32 := constant S_ .f32 0x7F800000#32
  let main_v1 : FVec F S8192x16x128 .f32 := broadcastInDim S8192x16x128 ![] bcast_S_S8192x16x128 main_cst
  let main_v2 : IVec S8192x16x128 1 := cmpf .olt main_v0 main_v1
  let main_v3 : FVec F S16x128x128 .f32 := mulf main_arg1 main_arg1
  let main_cst_0 : FVec F S_ .f32 := constant S_ .f32 0x00000000#32
  let main_v4 : FVec F S16x128 .f32 := (fun x v => Host.reduceAdd x v reducesTo_S16x128x128_S16x128_d1 h_S_) main_v3 main_cst_0
  let main_cst_1 : FVec F S_ .f32 := constant S_ .f32 0x00000000#32
  let main_v5 : FVec F S16x128 .f32 := broadcastInDim S16x128 ![] bcast_S_S16x128 main_cst_1
  let main_v6 : IVec S16x128 1 := cmpf .ogt main_v4 main_v5
  let main_v7 : FVec F S16x128x32 .f32 := Host.absf main_arg2
  let main_cst_2 : FVec F S_ .f32 := constant S_ .f32 0x7F800000#32
  let main_v8 : FVec F S16x128x32 .f32 := broadcastInDim S16x128x32 ![] bcast_S_S16x128x32 main_cst_2
  let main_v9 : IVec S16x128x32 1 := cmpf .olt main_v7 main_v8
  (main_v2, main_v6, main_v9)
-- ==== Kernel.lean ====
abbrev S8192x16x128 : Shape := ⟨3, ![8192, 16, 128]⟩
abbrev S16x128x128 : Shape := ⟨3, ![16, 128, 128]⟩
abbrev S16x128x32 : Shape := ⟨3, ![16, 128, 32]⟩
abbrev S16x128 : Shape := ⟨2, ![16, 128]⟩
abbrev S16x128x416 : Shape := ⟨3, ![16, 128, 416]⟩
abbrev S1x128x128 : Shape := ⟨3, ![1, 128, 128]⟩
abbrev S128x128 : Shape := ⟨2, ![128, 128]⟩
abbrev S1x128x32 : Shape := ⟨3, ![1, 128, 32]⟩
abbrev S128x32 : Shape := ⟨2, ![128, 32]⟩
abbrev S128 : Shape := ⟨1, ![128]⟩
abbrev S1x128 : Shape := ⟨2, ![1, 128]⟩
abbrev S8192x16x32 : Shape := ⟨3, ![8192, 16, 32]⟩
abbrev S256x16x128 : Shape := ⟨3, ![256, 16, 128]⟩
abbrev S256x16x32 : Shape := ⟨3, ![256, 16, 32]⟩
abbrev S256x1x128 : Shape := ⟨3, ![256, 1, 128]⟩
abbrev S256x128 : Shape := ⟨2, ![256, 128]⟩
abbrev S1x128x416 : Shape := ⟨3, ![1, 128, 416]⟩
abbrev S128x416 : Shape := ⟨2, ![128, 416]⟩
abbrev S256x416 : Shape := ⟨2, ![256, 416]⟩
abbrev S256x32 : Shape := ⟨2, ![256, 32]⟩
abbrev S256x1x32 : Shape := ⟨3, ![256, 1, 32]⟩

abbrev nBuf : Space → Nat
  | .hbm => 11
  | .vmem => 18
  | .smem => 0
  | _ => 0

abbrev bufTy : (tb : Table) → Fin (tcTables nBuf tb) → BufTy
  | .hbm, ⟨0, _⟩ => ⟨S8192x16x128, .f32⟩
  | .hbm, ⟨1, _⟩ => ⟨S16x128x128, .f32⟩
  | .hbm, ⟨2, _⟩ => ⟨S16x128x32, .f32⟩
  | .hbm, ⟨3, _⟩ => ⟨S16x128, .f32⟩
  | .hbm, ⟨4, _⟩ => ⟨S16x128x128, .f32⟩
  | .hbm, ⟨5, _⟩ => ⟨S16x128x416, .f32⟩
  | .hbm, ⟨6, _⟩ => ⟨S8192x16x128, .f32⟩
  | .hbm, ⟨7, _⟩ => ⟨S8192x16x128, .f32⟩
  | .hbm, ⟨8, _⟩ => ⟨S8192x16x128, .f32⟩
  | .hbm, ⟨9, _⟩ => ⟨S8192x16x32, .f32⟩
  | .hbm, ⟨10, _⟩ => ⟨S8192x16x128, .f32⟩
  | .local _ .vmem, ⟨0, _⟩ => ⟨S16x128x128, .f32⟩
  | .local _ .vmem, ⟨1, _⟩ => ⟨S16x128x32, .f32⟩
  | .local _ .vmem, ⟨2, _⟩ => ⟨S16x128x128, .f32⟩
  | .local _ .vmem, ⟨3, _⟩ => ⟨S16x128x416, .f32⟩
  | .local _ .vmem, ⟨4, _⟩ => ⟨S256x16x128, .f32⟩
  | .local _ .vmem, ⟨5, _⟩ => ⟨S256x16x128, .f32⟩
  | .local _ .vmem, ⟨6, _⟩ => ⟨S16x128x416, .f32⟩
  | .local _ .vmem, ⟨7, _⟩ => ⟨S16x128, .f32⟩
  | .local _ .vmem, ⟨8, _⟩ => ⟨S256x16x128, .f32⟩
  | .local _ .vmem, ⟨9, _⟩ => ⟨S256x16x128, .f32⟩
  | .local _ .vmem, ⟨10, _⟩ => ⟨S256x16x128, .f32⟩
  | .local _ .vmem, ⟨11, _⟩ => ⟨S256x16x128, .f32⟩
  | .local _ .vmem, ⟨12, _⟩ => ⟨S256x16x128, .f32⟩
  | .local _ .vmem, ⟨13, _⟩ => ⟨S256x16x128, .f32⟩
  | .local _ .vmem, ⟨14, _⟩ => ⟨S256x16x32, .f32⟩
  | .local _ .vmem, ⟨15, _⟩ => ⟨S256x16x32, .f32⟩
  | .local _ .vmem, ⟨16, _⟩ => ⟨S256x16x128, .f32⟩
  | .local _ .vmem, ⟨17, _⟩ => ⟨S256x16x128, .f32⟩
  | _, _ => ⟨S8192x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg7_1 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9
abbrev cc1_sem4_0 : DmaSem sig := 10
abbrev cc1_sem4_1 : DmaSem sig := 11
abbrev cc1_sem5_0 : DmaSem sig := 12
abbrev cc1_sem5_1 : DmaSem sig := 13
abbrev cc1_sem6_0 : DmaSem sig := 14
abbrev cc1_sem6_1 : DmaSem sig := 15
abbrev cc1_sem7_0 : DmaSem sig := 16
abbrev cc1_sem7_1 : DmaSem sig := 17

abbrev nD : Nat := 1
abbrev τ : Topo := Topo.v7x

variable {F : FTy → Type} [FloatOps F]

abbrev grid0 : Pipeline.Grid := .none

abbrev stage0_0 : Fin 1 → Memref sig .tc .vmem S16x128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x128x416 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S256x16x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x128x416 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x16x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x16x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x16x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x16x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x16x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== ReferenceIdeal.lean ====
abbrev S8192x16x128 : Shape := ⟨3, ![8192, 16, 128]⟩
abbrev S16x128x128 : Shape := ⟨3, ![16, 128, 128]⟩
abbrev S16x128x32 : Shape := ⟨3, ![16, 128, 32]⟩
abbrev S16x128 : Shape := ⟨2, ![16, 128]⟩
abbrev S_ : Shape := ⟨0, ![]⟩
abbrev S16x1x128 : Shape := ⟨3, ![16, 1, 128]⟩
abbrev S16x128x8192 : Shape := ⟨3, ![16, 128, 8192]⟩
abbrev S16x32x8192 : Shape := ⟨3, ![16, 32, 8192]⟩
abbrev S8192x16x32 : Shape := ⟨3, ![8192, 16, 32]⟩
abbrev S1x16x128 : Shape := ⟨3, ![1, 16, 128]⟩

abbrev nBuf : Space → Nat
  | .hbm => 25
  | .vmem => 0
  | .smem => 0
  | _ => 0

abbrev bufTy : (tb : Table) → Fin (tcTables nBuf tb) → BufTy
  | .hbm, ⟨0, _⟩ => ⟨S8192x16x128, .f32⟩
  | .hbm, ⟨1, _⟩ => ⟨S16x128x128, .f32⟩
  | .hbm, ⟨2, _⟩ => ⟨S16x128x32, .f32⟩
  | .hbm, ⟨3, _⟩ => ⟨S16x128, .f32⟩
  | .hbm, ⟨4, _⟩ => ⟨S16x128x128, .f32⟩
  | .hbm, ⟨5, _⟩ => ⟨S_, .f32⟩
  | .hbm, ⟨6, _⟩ => ⟨S16x128, .f32⟩
  | .hbm, ⟨7, _⟩ => ⟨S16x1x128, .f32⟩
  | .hbm, ⟨8, _⟩ => ⟨S16x1x128, .f32⟩
  | .hbm, ⟨9, _⟩ => ⟨S16x128x128, .f32⟩
  | .hbm, ⟨10, _⟩ => ⟨S16x128x128, .f32⟩
  | .hbm, ⟨11, _⟩ => ⟨S16x128x8192, .f32⟩
  | .hbm, ⟨12, _⟩ => ⟨S8192x16x128, .f32⟩
  | .hbm, ⟨13, _⟩ => ⟨S16x32x8192, .f32⟩
  | .hbm, ⟨14, _⟩ => ⟨S8192x16x32, .f32⟩
  | .hbm, ⟨15, _⟩ => ⟨S16x128x8192, .f32⟩
  | .hbm, ⟨16, _⟩ => ⟨S8192x16x128, .f32⟩
  | .hbm, ⟨17, _⟩ => ⟨S16x128x8192, .f32⟩
  | .hbm, ⟨18, _⟩ => ⟨S8192x16x128, .f32⟩
  | .hbm, ⟨19, _⟩ => ⟨S1x16x128, .f32⟩
  | .hbm, ⟨20, _⟩ => ⟨S8192x16x128, .f32⟩
  | .hbm, ⟨21, _⟩ => ⟨S8192x16x128, .f32⟩
  | .hbm, ⟨22, _⟩ => ⟨S_, .f32⟩
  | .hbm, ⟨23, _⟩ => ⟨S8192x16x128, .f32⟩
  | .hbm, ⟨24, _⟩ => ⟨S8192x16x128, .f32⟩
  | _, _ => ⟨S8192x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call1_cst : Ref sig .tc := ⟨.hbm, 22, rfl⟩
abbrev main_call1_v0 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== Proof.Run.lean ====
/- What a run of the idealized kernel leaves in its six result arrays: each is the array its region's
   write-backs leave, in the terms of the generated frame certificate. -/
module

public import proofs.«01_k».proof.Proof.Gen.KernelIdeal.Frame

@[expose] public section

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

variable {F : FTy → Type} [FloatOps F]
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the program ends, and ends with each unscoped buffer at the contents that the two
    regions leave one after the other. -/
theorem ends : θ_run defs (onTc (τ := τ) (main (F := F))) ⟨m, fun _ => 0, ρ⟩
    (fun r => ∀ c : Dev nD, ∀ b ∈ Pipeline.ucRefs τ sig, r.2.mem (((c : Thread nD τ)).1, b) = W2 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ => h)

/-- The array of normalised columns, an output of the first region, is not written by the second. -/
theorem W2_nA (c : Dev nD) : W2 m ρ c (Proc.devRef .tc main_v0_0) = (dat0 (V0 m ρ) c).arrAt 2 cfg0.N :=
  (W2_of m ρ c main_v0_0 (by decide)).trans (W1_arr m ρ c 2)

/-- The second region finds the stacked weights as the first region leaves them, -/
theorem V1_G (c : Dev nD) : V1 m ρ c (Pipeline.arrRef spec1 1) = (dat0 (V0 m ρ) c).arrAt 3 cfg0.N :=
  W1_arr m ρ c 3

/-- and the features as the launch left them, -/
theorem V1_x (c : Dev nD) : V1 m ρ c (Pipeline.arrRef spec1 0) = m ((c : Thread nD τ).loc main_arg0) :=
  W1_args m ρ c main_arg0 (by decide)

/-- and the bias as the launch left it. -/
theorem V1_b (c : Dev nD) : V1 m ρ c (Pipeline.arrRef spec1 2) = m ((c : Thread nD τ).loc main_arg3) :=
  W1_args m ρ c main_arg3 (by decide)

/-- A run ends with the six results at the arrays of the regions' output windows and the arguments unchanged. -/
theorem run : θ_run defs (onTc (τ := τ) (main (F := F))) ⟨m, fun _ => 0, ρ⟩ (fun r => ∀ c : Dev nD,
      r.2.mem ((c.tc : Thread nD τ).loc main_v1_0) = (dat1 (V1 m ρ) c).arrAt 3 cfg1.N
      ∧ r.2.mem ((c.tc : Thread nD τ).loc main_v1_1) = (dat1 (V1 m ρ) c).arrAt 4 cfg1.N
      ∧ r.2.mem ((c.tc : Thread nD τ).loc main_v1_2) = (dat1 (V1 m ρ) c).arrAt 5 cfg1.N
      ∧ r.2.mem ((c.tc : Thread nD τ).loc main_v1_3) = (dat1 (V1 m ρ) c).arrAt 6 cfg1.N
      ∧ r.2.mem ((c.tc : Thread nD τ).loc main_v1_4) = (dat1 (V1 m ρ) c).arrAt 7 cfg1.N
      ∧ r.2.mem ((c.tc : Thread nD τ).loc main_v0_0) = (dat0 (V0 m ρ) c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v1_0 (by decide))).trans (W2_arr m ρ c 3),
     (h c _ (mem_uc main_v1_1 (by decide))).trans (W2_arr m ρ c 4),
     (h c _ (mem_uc main_v1_2 (by decide))).trans (W2_arr m ρ c 5),
     (h c _ (mem_uc main_v1_3 (by decide))).trans (W2_arr m ρ c 6),
     (h c _ (mem_uc main_v1_4 (by decide))).trans (W2_arr m ρ c 7),
     (h c _ (mem_uc main_v0_0 (by decide))).trans (W2_nA m ρ c),
     (h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c),
     (h c _ (mem_uc main_arg3 (by decide))).trans (W2_main_arg3 m ρ c)⟩) (ends m ρ)

end Cert.KernelIdeal.Result

end
-- ==== Proof.Algebra.lean ====
/- Sums of products of extended reals that are all real: they reassociate. -/
module

public import Idealize.ShloMosaic.PureOps.Ideal

@[expose] public section

namespace Cert.Algebra

open Idealize.ShloMosaic

/-- An extended real that is a real. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of reals, read among the extended reals. -/
theorem sum_coe {n : ℕ} (r : Fin n → ℝ) : ∑ i, (r i : EReal) = ((∑ i, r i : ℝ) : EReal) := by
  induction n with
  | zero => simp
  | succ n ih => rw [Fin.sum_univ_succ, Fin.sum_univ_succ, ih, EReal.coe_add]

theorem IsReal.sum {n : ℕ} {x : Fin n → EReal} (hx : ∀ i, IsReal (x i)) : IsReal (∑ i, x i) := by
  choose r hr using hx
  exact ⟨∑ i, r i, by simp only [hr, sum_coe]⟩

/-- A row through a matrix and then a weighted sum of the entries: the matrix may be applied to the weights first. -/
theorem row_through {n m : ℕ} {x : Fin n → EReal} {M : Fin n → Fin m → EReal} {v : Fin m → EReal}
    (hx : ∀ f, IsReal (x f)) (hM : ∀ f k, IsReal (M f k)) (hv : ∀ k, IsReal (v k)) :
    ∑ k, v k * (∑ f, x f * M f k) = ∑ f, x f * (∑ k, M f k * v k) := by
  choose x' hx using hx
  choose M' hM using hM
  choose v' hv using hv
  simp only [hx, hM, hv, ← EReal.coe_mul, sum_coe]
  refine congrArg _ ?_
  simp only [Finset.mul_sum]
  rw [Finset.sum_comm]
  exact Finset.sum_congr rfl fun f _ => Finset.sum_congr rfl fun k _ => by ring

/-- A product of three matrices, bracketed either way. -/
theorem assoc {n m : ℕ} {u : Fin n → EReal} {P : Fin n → Fin m → EReal} {v : Fin m → EReal}
    (hu : ∀ l, IsReal (u l)) (hP : ∀ l h, IsReal (P l h)) (hv : ∀ h, IsReal (v h)) :
    ∑ h, (∑ l, u l * P l h) * v h = ∑ l, u l * (∑ h, P l h * v h) := by
  rw [← row_through hu hP hv]
  exact Finset.sum_congr rfl fun h _ => mul_comm _ _

/-- A square is not negative. -/
theorem square_nonneg (a : EReal) : 0 ≤ a * a := by
  induction a with
  | bot => simp
  | top => simp
  | coe r => rw [← EReal.coe_mul]; exact_mod_cast mul_self_nonneg r

/-- A number whose square is at most a real is real. -/
theorem isReal_of_mul_self_le {a : EReal} {s : ℝ} (h : a * a ≤ (s : EReal)) : IsReal a := by
  induction a with
  | bot => simp at h
  | top => simp at h
  | coe r => exact ⟨r, rfl⟩

/-- A column with a positive sum of squares: times the inverse root of that sum is the quotient by the root, and real. -/
theorem scale {n : ℕ} (a : Fin n → EReal) (h : 0 < ∑ g, a g * a g) (f : Fin n) :
    a f * Ideal.rsqrt (∑ g, a g * a g) = Ideal.div (a f) (Ideal.sqrt (∑ g, a g * a g)) ∧ IsReal (a f * Ideal.rsqrt (∑ g, a g * a g)) := by
  have hle : a f * a f ≤ ∑ g, a g * a g := Finset.single_le_sum (fun g _ => square_nonneg (a g)) (Finset.mem_univ f)
  revert h hle
  generalize ∑ g, a g * a g = s
  intro h hle
  induction s with
  | bot => simp at h
  | top => exact ⟨by simp [Ideal.div], ⟨0, by simp⟩⟩
  | coe r =>
    have hr : 0 < r := by exact_mod_cast h
    obtain ⟨x, hx⟩ := isReal_of_mul_self_le hle
    have hs : Real.sqrt r ≠ 0 := (Real.sqrt_pos.mpr hr).ne'
    rw [hx, Ideal.rsqrt_coe, Ideal.sqrt_coe, if_neg hr.not_gt, if_neg hr.ne', if_neg hr.not_gt, Ideal.div,
      if_neg (by exact_mod_cast hs), EReal.coe_inv]
    exact ⟨rfl, x * (Real.sqrt r)⁻¹, by rw [EReal.coe_mul, EReal.coe_inv]⟩

end Cert.Algebra
-- ==== Proof.Index.lean ====
/- Multi-indices of small rank from their coordinates. -/
module

public import Idealize.ShloMosaic.Lib.Pointwise

@[expose] public section

namespace Cert.Index

open Idealize.ShloMosaic

/-- A rank-3 index from its coordinates. -/
theorem ix3_of_vals {n m l : ℕ} (x : Shape.Idx (⟨3, ![n, m, l]⟩ : Shape)) {a : Fin n} {b : Fin m} {d : Fin l}
    (h0 : (x 0).val = a.val) (h1 : (x 1).val = b.val) (h2 : (x 2).val = d.val) : x = ix3 a b d :=
  funext fun q => match q with
    | ⟨0, _⟩ => Fin.ext h0
    | ⟨1, _⟩ => Fin.ext h1
    | ⟨2, _⟩ => Fin.ext h2

/-- A rank-2 index from its coordinates. -/
theorem ix2_of_vals {n m : ℕ} (x : Shape.Idx (⟨2, ![n, m]⟩ : Shape)) {a : Fin n} {b : Fin m}
    (h0 : (x 0).val = a.val) (h1 : (x 1).val = b.val) : x = ix2 a b :=
  funext fun q => match q with
    | ⟨0, _⟩ => Fin.ext h0
    | ⟨1, _⟩ => Fin.ext h1

end Cert.Index
-- ==== Proof.Weights.lean ====
/- The first region: what the weight kernel leaves in its two output arrays, at an index. -/
module

public import proofs.«01_k».proof.Proof.Gen.KernelIdeal.Frame
public import Idealize.ShloMosaic.Lib.Pipeline.ValueKit
public import proofs.«01_k».proof.Proof.Index

@[expose] public section

set_option maxRecDepth 16384

noncomputable section

namespace Cert.KernelIdeal.Weights

open Idealize.ShloMosaic Idealize.ShloMosaic.TcCoe Idealize.SL.Sem
open Idealize.ShloMosaic.Pipeline (Dat)
open Cert.KernelIdeal Cert.KernelIdeal.Gen Cert.Index

/-- Column `k` of matrix `i` scaled by the inverse square root of its sum of squares, at row `f`. -/
def nA (A : S16x128x128.Idx → EReal) (i : Fin 16) (f k : Fin 128) : EReal :=
  A (ix3 i f k) * Ideal.rsqrt (∑ g : Fin 128, A (ix3 i g k) * A (ix3 i g k))

/-- The Gram matrix of the rows of `B i`. -/
def gram (B : S16x128x32.Idx → EReal) (i : Fin 16) (k l : Fin 128) : EReal :=
  ∑ h : Fin 32, B (ix3 i k h) * B (ix3 i l h)

/-- The scaled matrix times the Gram matrix. -/
def scaledGram (A : S16x128x128.Idx → EReal) (B : S16x128x32.Idx → EReal) (i : Fin 16) (f k : Fin 128) : EReal :=
  ∑ l : Fin 128, nA A i f l * gram B i l k

/-- The scaled matrix times the Gram matrix times the scaled matrix's transpose. -/
def full (A : S16x128x128.Idx → EReal) (B : S16x128x32.Idx → EReal) (i : Fin 16) (f g : Fin 128) : EReal :=
  ∑ k : Fin 128, scaledGram A B i f k * nA A i g k

/-- The scaled matrix times `B i`. -/
def narrow (A : S16x128x128.Idx → EReal) (B : S16x128x32.Idx → EReal) (i : Fin 16) (f : Fin 128) (h : Fin 32) : EReal :=
  ∑ k : Fin 128, nA A i f k * B (ix3 i k h)

/-- The four matrices of one index side by side: 128, 128, 128 and 32 columns. -/
def stack (A : S16x128x128.Idx → EReal) (B : S16x128x32.Idx → EReal) (i : Fin 16) (f : Fin 128) (j : Fin 416) : EReal :=
  if h0 : j.val < 128 then nA A i f ⟨j.val, h0⟩
  else if h1 : j.val < 256 then scaledGram A B i f ⟨j.val - 128, by omega⟩
  else if h2 : j.val < 384 then full A B i f ⟨j.val - 256, by omega⟩
  else narrow A B i f ⟨j.val - 384, by omega⟩

/-- The first 128 columns are the scaled matrix. -/
theorem stack_nA (A : S16x128x128.Idx → EReal) (B : S16x128x32.Idx → EReal) (i : Fin 16) (f : Fin 128) (j : Fin 416)
    (k : Fin 128) (h : j.val = k.val) : stack A B i f j = nA A i f k := by
  unfold stack
  rw [dif_pos (by omega)]
  exact congrArg (nA A i f) (Fin.ext h)

/-- The next 128 are its product with the Gram matrix. -/
theorem stack_scaledGram (A : S16x128x128.Idx → EReal) (B : S16x128x32.Idx → EReal) (i : Fin 16) (f : Fin 128) (j : Fin 416)
    (k : Fin 128) (h : j.val = 128 + k.val) : stack A B i f j = scaledGram A B i f k := by
  unfold stack
  rw [dif_neg (by omega), dif_pos (by omega)]
  exact congrArg (scaledGram A B i f) (Fin.ext (by show j.val - 128 = k.val; omega))

/-- The next 128 are that product with the scaled matrix's transpose. -/
theorem stack_full (A : S16x128x128.Idx → EReal) (B : S16x128x32.Idx → EReal) (i : Fin 16) (f : Fin 128) (j : Fin 416)
    (k : Fin 128) (h : j.val = 256 + k.val) : stack A B i f j = full A B i f k := by
  unfold stack
  rw [dif_neg (by omega), dif_neg (by omega), dif_pos (by omega)]
  exact congrArg (full A B i f) (Fin.ext (by show j.val - 256 = k.val; omega))

/-- The last 32 are the product of the scaled matrix with `B i`. -/
theorem stack_narrow (A : S16x128x128.Idx → EReal) (B : S16x128x32.Idx → EReal) (i : Fin 16) (f : Fin 128) (j : Fin 416)
    (k : Fin 32) (h : j.val = 384 + k.val) : stack A B i f j = narrow A B i f k := by
  unfold stack
  rw [dif_neg (by omega), dif_neg (by omega), dif_neg (by omega)]
  exact congrArg (narrow A B i f) (Fin.ext (by show j.val - 384 = k.val; omega))

/-! ## One index's blocks -/

section Block
variable (i : Fin 16) (A : S16x128x128.Idx → EReal) (B : S16x128x32.Idx → EReal)
  (a : Vec Ideal S1x128x128 .f32) (b : Vec Ideal S1x128x32 .f32)
  (ha : ∀ f k : Fin 128, a (ix3 (0 : Fin 1) f k) = A (ix3 i f k))
  (hb : ∀ (k : Fin 128) (h : Fin 32), b (ix3 (0 : Fin 1) k h) = B (ix3 i k h))
include ha

/-- The block of `A` with its columns scaled. -/
theorem scaled_apply (f k : Fin 128) : k0_pay2 (F := Ideal) a (ix2 f k) = nA A i f k := by
  unfold k0_pay2 nA
  pointwise
  simp only [ha]

/-- As it is stored, under a leading axis of one. -/
theorem store_nA (u : Fin 1) (f : Fin 128) (k : Fin 128) : k0_pay4 (F := Ideal) a (ix3 u f k) = nA A i f k := by
  rw [← scaled_apply i A a ha]
  unfold k0_pay4
  pointwise

include hb

/-- The block of `B` times its own transpose. -/
theorem gram_apply (k l : Fin 128) :
    matmul dot_S128x32_S128x32_S128x128_1_1_0_0_n_n none (k0_pay1 (F := Ideal) b) (k0_pay1 b)
      (constant S128x128 .f32 0x00000000#32) (ix2 k l) = gram B i k l := by
  unfold k0_pay1 gram
  pointwise
  simp only [hb]

/-- The scaled block times that. -/
theorem scaledGram_apply (f k : Fin 128) : k0_pay3 (F := Ideal) a b (ix2 f k) = scaledGram A B i f k := by
  unfold k0_pay3 scaledGram
  rw [← funext fun l => congrArg (nA A i f l * ·) (gram_apply i A B a b ha hb l k)]
  generalize matmul dot_S128x32_S128x32_S128x128_1_1_0_0_n_n none (k0_pay1 (F := Ideal) b) (k0_pay1 b)
      (constant S128x128 .f32 0x00000000#32) = M
  pointwise
  simp only [scaled_apply i A a ha]

theorem store_scaledGram (u : Fin 1) (f : Fin 128) (k : Fin 128) : k0_pay6 (F := Ideal) a b (ix3 u f k) = scaledGram A B i f k := by
  rw [← scaledGram_apply i A B a b ha hb]
  unfold k0_pay6
  pointwise

theorem store_full (u : Fin 1) (f : Fin 128) (k : Fin 128) : k0_pay7 (F := Ideal) a b (ix3 u f k) = full A B i f k := by
  unfold k0_pay7 full
  pointwise
  simp only [scaled_apply i A a ha, scaledGram_apply i A B a b ha hb]

theorem store_narrow (u : Fin 1) (f : Fin 128) (k : Fin 32) : k0_pay8 (F := Ideal) a b (ix3 u f k) = narrow A B i f k := by
  unfold k0_pay8 k0_pay1 narrow
  pointwise
  simp only [scaled_apply i A a ha, hb]

end Block

section
variable (c : Dev nD) (arg0 : Memref sig .tc .vmem S16x128x128 .f32) (harg0 : arg0.IsWhole) (arg1 : Memref sig .tc .vmem S16x128x32 .f32) (harg1 : arg1.IsWhole) (arg2 : Memref sig .tc .vmem S16x128x128 .f32) (harg2 : arg2.IsWhole) (arg3 : Memref sig .tc .vmem S16x128x416 .f32) (harg3 : arg3.IsWhole)
  (x0 : Vec Ideal S16x128x128 .f32) (x1 : Vec Ideal S16x128x32 .f32)

/-- A load of one matrix of `A`. -/
theorem load_A {n : ℕ} (inb : ∀ a, ![n, 0, 0] a + ![1, 128, 128] a ≤ S16x128x128.size a) (i : Fin 16) (hi : i.val = n)
    (f k : Fin 128) :
    View.ld (Val := Elt Ideal) (e' := .f32) x0 (Rect.unit ![n, 0, 0] ![1, 128, 128] inb) (ix3 (0 : Fin 1) f k) = x0 (ix3 i f k) :=
  View.ld_unit_apply_of (Val := Elt Ideal) (e := .f32) x0 ![n, 0, 0] ![1, 128, 128] inb (ix3 (0 : Fin 1) f k) (ix3 i f k) (fun a => match a with
    | ⟨0, _⟩ => by show i.val = n + 0; omega
    | ⟨1, _⟩ => by show f.val = 0 + f.val; omega
    | ⟨2, _⟩ => by show k.val = 0 + k.val; omega)

/-- A load of one matrix of `B`. -/
theorem load_B {n : ℕ} (inb : ∀ a, ![n, 0, 0] a + ![1, 128, 32] a ≤ S16x128x32.size a) (i : Fin 16) (hi : i.val = n)
    (k : Fin 128) (h : Fin 32) :
    View.ld (Val := Elt Ideal) (e' := .f32) x1 (Rect.unit ![n, 0, 0] ![1, 128, 32] inb) (ix3 (0 : Fin 1) k h) = x1 (ix3 i k h) :=
  View.ld_unit_apply_of (Val := Elt Ideal) (e := .f32) x1 ![n, 0, 0] ![1, 128, 32] inb (ix3 (0 : Fin 1) k h) (ix3 i k h) (fun a => match a with
    | ⟨0, _⟩ => by show i.val = n + 0; omega
    | ⟨1, _⟩ => by show k.val = 0 + k.val; omega
    | ⟨2, _⟩ => by show h.val = 0 + h.val; omega)

/-- A block of the first output at its place in the array. -/
theorem piece_nA {n : ℕ} (inb : ∀ a, ![n, 0, 0] a + ![1, 128, 128] a ≤ S16x128x128.size a) (x : S1x128x128.Idx) (i : Fin 16) (f k : Fin 128)
    (h0 : i.val = n + (x 0).val) (h1 : f.val = (x 1).val) (h2 : k.val = (x 2).val) :
    k0_pay4 (F := Ideal) (View.ld (Val := Elt Ideal) (e' := .f32) x0 (Rect.unit ![n, 0, 0] ![1, 128, 128] inb)) x = nA x0 i f k := by
  have hx : (x 0).val < 1 := (x 0).isLt
  obtain ⟨u, rfl⟩ : ∃ u : Fin 1, x = ix3 u f k := ⟨x 0, ix3_of_vals x rfl h1.symm h2.symm⟩
  exact store_nA i x0 _ (load_A x0 inb i (by omega)) _ f k

/-- Columns 0 to 127 of the second output's block at their place in the array. -/
theorem stacked_nA {n : ℕ} (inb : ∀ a, ![n, 0, 0] a + ![1, 128, 128] a ≤ S16x128x128.size a) (x : S1x128x128.Idx) (i : Fin 16) (f : Fin 128) (j : Fin 416)
    (h0 : i.val = n + (x 0).val) (h1 : f.val = (x 1).val) (h2 : j.val = 0 + (x 2).val) :
    k0_pay5 (F := Ideal) (View.ld (Val := Elt Ideal) (e' := .f32) x0 (Rect.unit ![n, 0, 0] ![1, 128, 128] inb)) x = stack x0 x1 i f j := by
  have hx : (x 0).val < 1 := (x 0).isLt
  obtain ⟨k, hk⟩ : ∃ k : Fin 128, k.val = (x 2).val := ⟨x 2, rfl⟩
  obtain ⟨u, rfl⟩ : ∃ u : Fin 1, x = ix3 u f k := ⟨x 0, ix3_of_vals x rfl h1.symm hk.symm⟩
  rw [stack_nA x0 x1 i f j k (by omega)]
  exact store_nA i x0 _ (load_A x0 inb i (by omega)) _ f k

/-- Columns 128 to 255 of the second output's block at their place in the array. -/
theorem stacked_scaledGram {n : ℕ} (inb : ∀ a, ![n, 0, 0] a + ![1, 128, 128] a ≤ S16x128x128.size a) (inb' : ∀ a, ![n, 0, 0] a + ![1, 128, 32] a ≤ S16x128x32.size a) (x : S1x128x128.Idx) (i : Fin 16) (f : Fin 128) (j : Fin 416)
    (h0 : i.val = n + (x 0).val) (h1 : f.val = (x 1).val) (h2 : j.val = 128 + (x 2).val) :
    k0_pay6 (F := Ideal) (View.ld (Val := Elt Ideal) (e' := .f32) x0 (Rect.unit ![n, 0, 0] ![1, 128, 128] inb)) (View.ld (Val := Elt Ideal) (e' := .f32) x1 (Rect.unit ![n, 0, 0] ![1, 128, 32] inb')) x = stack x0 x1 i f j := by
  have hx : (x 0).val < 1 := (x 0).isLt
  obtain ⟨k, hk⟩ : ∃ k : Fin 128, k.val = (x 2).val := ⟨x 2, rfl⟩
  obtain ⟨u, rfl⟩ : ∃ u : Fin 1, x = ix3 u f k := ⟨x 0, ix3_of_vals x rfl h1.symm hk.symm⟩
  rw [stack_scaledGram x0 x1 i f j k (by omega)]
  exact store_scaledGram i x0 x1 _ _ (load_A x0 inb i (by omega)) (load_B x1 inb' i (by omega)) _ f k

/-- Columns 256 to 383 of the second output's block at their place in the array. -/
theorem stacked_full {n : ℕ} (inb : ∀ a, ![n, 0, 0] a + ![1, 128, 128] a ≤ S16x128x128.size a) (inb' : ∀ a, ![n, 0, 0] a + ![1, 128, 32] a ≤ S16x128x32.size a) (x : S1x128x128.Idx) (i : Fin 16) (f : Fin 128) (j : Fin 416)
    (h0 : i.val = n + (x 0).val) (h1 : f.val = (x 1).val) (h2 : j.val = 256 + (x 2).val) :
    k0_pay7 (F := Ideal) (View.ld (Val := Elt Ideal) (e' := .f32) x0 (Rect.unit ![n, 0, 0] ![1, 128, 128] inb)) (View.ld (Val := Elt Ideal) (e' := .f32) x1 (Rect.unit ![n, 0, 0] ![1, 128, 32] inb')) x = stack x0 x1 i f j := by
  have hx : (x 0).val < 1 := (x 0).isLt
  obtain ⟨k, hk⟩ : ∃ k : Fin 128, k.val = (x 2).val := ⟨x 2, rfl⟩
  obtain ⟨u, rfl⟩ : ∃ u : Fin 1, x = ix3 u f k := ⟨x 0, ix3_of_vals x rfl h1.symm hk.symm⟩
  rw [stack_full x0 x1 i f j k (by omega)]
  exact store_full i x0 x1 _ _ (load_A x0 inb i (by omega)) (load_B x1 inb' i (by omega)) _ f k

/-- Columns 384 to 415 of the second output's block at their place in the array. -/
theorem stacked_narrow {n : ℕ} (inb : ∀ a, ![n, 0, 0] a + ![1, 128, 128] a ≤ S16x128x128.size a) (inb' : ∀ a, ![n, 0, 0] a + ![1, 128, 32] a ≤ S16x128x32.size a) (x : S1x128x32.Idx) (i : Fin 16) (f : Fin 128) (j : Fin 416)
    (h0 : i.val = n + (x 0).val) (h1 : f.val = (x 1).val) (h2 : j.val = 384 + (x 2).val) :
    k0_pay8 (F := Ideal) (View.ld (Val := Elt Ideal) (e' := .f32) x0 (Rect.unit ![n, 0, 0] ![1, 128, 128] inb)) (View.ld (Val := Elt Ideal) (e' := .f32) x1 (Rect.unit ![n, 0, 0] ![1, 128, 32] inb')) x = stack x0 x1 i f j := by
  have hx : (x 0).val < 1 := (x 0).isLt
  obtain ⟨k, hk⟩ : ∃ k : Fin 32, k.val = (x 2).val := ⟨x 2, rfl⟩
  obtain ⟨u, rfl⟩ : ∃ u : Fin 1, x = ix3 u f k := ⟨x 0, ix3_of_vals x rfl h1.symm hk.symm⟩
  rw [stack_narrow x0 x1 i f j k (by omega)]
  exact store_narrow i x0 x1 _ _ (load_A x0 inb i (by omega)) (load_B x1 inb' i (by omega)) _ f k

/-- The region's first output at an index. -/
theorem out_nA (y : S16x128x128.Idx) :
    out0_A_2 c arg0 harg0 arg1 harg1 arg2 harg2 arg3 harg3 x0 x1 y = nA x0 (y 0) (y 1) (y 2) := by
  frame_out
  canon_tiles x h
  all_goals refine piece_nA x0 _ x _ _ _ ?_ ?_ ?_ <;> omega

set_option maxHeartbeats 4000000 in
/-- The region's second output at an index. -/
theorem out_G (y : S16x128x416.Idx) :
    out0_A_3 c arg0 harg0 arg1 harg1 arg2 harg2 arg3 harg3 x0 x1 y = stack x0 x1 (y 0) (y 1) (y 2) := by
  frame_out
  canon_tiles x h using View.cover_of_tiledBy _ ![1, 128, 32] (by sl_kernel_rfl) y
  all_goals first
    | (have h3 : (y 2).val = 0 + (x 2).val := by omega
       refine stacked_nA x0 x1 _ x _ _ _ ?_ ?_ h3 <;> omega)
    | (have h3 : (y 2).val = 128 + (x 2).val := by omega
       refine stacked_scaledGram x0 x1 _ _ x _ _ _ ?_ ?_ h3 <;> omega)
    | (have h3 : (y 2).val = 256 + (x 2).val := by omega
       refine stacked_full x0 x1 _ _ x _ _ _ ?_ ?_ h3 <;> omega)
    | (have h3 : (y 2).val = 384 + (x 2).val := by omega
       refine stacked_narrow x0 x1 _ _ x _ _ _ ?_ ?_ h3 <;> omega)
end

/-! ## The arrays -/

section
variable (V : (c : Dev nD) → (b : Ref sig .tc) → Buf (Elt Ideal) ((c : Thread nD τ).loc b)) (c : Dev nD)

/-- The input windows' block indices at the region's one point. -/
theorem idx : ∀ t : Fin cfg0.N, win0_0.index t = ![0, 0, 0] ∧ win0_1.index t = ![0, 0, 0] :=
  (by decide +kernel : ∀ t : Fin grid0.N, _)

/-- The only block of the first input window is the whole of `A`. -/
theorem block_A (t : Fin cfg0.N) : (iblk0 V c 0 t : S16x128x128.Idx → EReal) = V c main_arg1 := by
  funext x
  blk_ext [iblk0, idx t]

/-- The only block of the second input window is the whole of `B`. -/
theorem block_B (t : Fin cfg0.N) : (iblk0 V c 1 t : S16x128x32.Idx → EReal) = V c main_arg2 := by
  funext x
  blk_ext [iblk0, idx t]

/-- What the region's point leaves in its first output's buffer. -/
theorem outs_nA (t : Fin cfg0.N) (y : S16x128x128.Idx) : (outsAt0 V c t).1 y = nA (V c main_arg1) (y 0) (y 1) (y 2) := by
  have h := out_nA c (ms0_0 t) (hs0_0 t) (ms0_1 t) (hs0_1 t) (ms0_2 t) (hs0_2 t) (ms0_3 t) (hs0_3 t) (iblk0 V c 0 t) (iblk0 V c 1 t) y
  unfold outsAt0
  dsimp only
  exact h.trans (by rw [block_A])

/-- What the region's point leaves in its second output's buffer. -/
theorem outs_G (t : Fin cfg0.N) (y : S16x128x416.Idx) :
    (outsAt0 V c t).2 y = stack (V c main_arg1) (V c main_arg2) (y 0) (y 1) (y 2) := by
  have h := out_G c (ms0_0 t) (hs0_0 t) (ms0_1 t) (hs0_1 t) (ms0_2 t) (hs0_2 t) (ms0_3 t) (hs0_3 t) (iblk0 V c 0 t) (iblk0 V c 1 t) y
  unfold outsAt0
  dsimp only
  exact h.trans (by rw [block_A, block_B])

/-- The first output array holds the scaled matrices. -/
theorem array_nA : (dat0 V c).arrAt 2 cfg0.N = fun y : S16x128x128.Idx => nA (V c main_arg1) (y 0) (y 1) (y 2) := by
  refine (dat0 V c).arrAt_eq_of_after_last 2 t0_0 (by decide +kernel) _ fun j => ?_
  blk_simp
  rw [after0_2]
  exact outs_nA V c t0_0 j

/-- The second output array holds the four products side by side. -/
theorem array_G : (dat0 V c).arrAt 3 cfg0.N = fun y : S16x128x416.Idx => stack (V c main_arg1) (V c main_arg2) (y 0) (y 1) (y 2) := by
  refine (dat0 V c).arrAt_eq_of_after_last 3 t0_0 (by decide +kernel) _ fun j => ?_
  blk_simp
  rw [after0_3]
  exact outs_G V c t0_0 j
end

end Cert.KernelIdeal.Weights

end
-- ==== Proof.Fused.lean ====
/- The second region: what the fused kernel leaves in its five output arrays, at an index. -/
module

public import proofs.«01_k».proof.Proof.Gen.KernelIdeal.Frame
public import Idealize.ShloMosaic.Lib.Pipeline.ValueKit
public import proofs.«01_k».proof.Proof.Index

@[expose] public section

set_option maxRecDepth 16384

noncomputable section

namespace Cert.KernelIdeal.Fused

open Idealize.ShloMosaic Idealize.ShloMosaic.TcCoe Idealize.SL.Sem
open Idealize.ShloMosaic.Pipeline (Dat)
open Cert.KernelIdeal Cert.KernelIdeal.Gen Cert.Index

/-- Row `(b, i)` of the features times column `j` of the stacked weights of index `i`. -/
def mixed {n : ℕ} (X : (⟨3, ![n, 16, 128]⟩ : Shape).Idx → EReal) (G : S16x128x416.Idx → EReal) (b : Fin n) (i : Fin 16) (j : Fin 416) : EReal :=
  ∑ f : Fin 128, X (ix3 b i f) * G (ix3 i f j)

/-- Column `o + k` of the stacked weights. -/
def col (o : ℕ) {w : ℕ} (k : Fin w) (h : o + w ≤ 416 := by decide) : Fin 416 := ⟨o + k.val, by omega⟩

/-! ## One index's blocks -/

section Block
variable (i : Fin 16) (X : S256x16x128.Idx → EReal) (G : S16x128x416.Idx → EReal) (c : S16x128.Idx → EReal)
  (x : Vec Ideal S256x1x128 .f32) (g : Vec Ideal S1x128x416 .f32) (b : Vec Ideal S1x128 .f32)
  (hx : ∀ (r : Fin 256) (f : Fin 128), x (ix3 r (0 : Fin 1) f) = X (ix3 r i f))
  (hg : ∀ (f : Fin 128) (j : Fin 416), g (ix3 (0 : Fin 1) f j) = G (ix3 i f j))
  (hb : ∀ k : Fin 128, b (ix2 (0 : Fin 1) k) = c (ix2 i k))
include hx hg

/-- The block of features times the stacked weights. -/
theorem mixed_apply (r : Fin 256) (j : Fin 416) : k1_pay1 (F := Ideal) x g (ix2 r j) = mixed (n := 256) X G r i j := by
  unfold k1_pay1 mixed
  pointwise
  simp only [hx, hg]

theorem store_h0 (r : Fin 256) (u : Fin 1) (k : Fin 128) : k1_pay2 (F := Ideal) x g (ix3 r u k) = mixed (n := 256) X G r i (col 0 k) := by
  rw [← mixed_apply i X G x g hx hg]
  unfold k1_pay2
  pointwise
  exact congrArg (fun j => k1_pay1 (F := Ideal) x g (ix2 r j)) (Fin.ext (by simp [col]))

theorem store_h1 (r : Fin 256) (u : Fin 1) (k : Fin 128) : k1_pay3 (F := Ideal) x g (ix3 r u k) = mixed (n := 256) X G r i (col 128 k) := by
  rw [← mixed_apply i X G x g hx hg]
  unfold k1_pay3
  pointwise
  rfl

theorem store_hid (r : Fin 256) (u : Fin 1) (k : Fin 32) : k1_pay4 (F := Ideal) x g (ix3 r u k) = mixed (n := 256) X G r i (col 384 k) := by
  rw [← mixed_apply i X G x g hx hg]
  unfold k1_pay4
  pointwise
  rfl

include hb in
theorem store_pre (r : Fin 256) (u : Fin 1) (k : Fin 128) :
    k1_pay5 (F := Ideal) x g b (ix3 r u k) = mixed (n := 256) X G r i (col 256 k) + c (ix2 i k) := by
  rw [← mixed_apply i X G x g hx hg, ← hb]
  unfold k1_pay5
  pointwise
  rfl

end Block

section Pieces
variable (x0 : Vec Ideal S256x16x128 .f32) (x1 : Vec Ideal S16x128x416 .f32) (x2 : Vec Ideal S16x128 .f32)

/-- A load of one index's rows of the feature block. -/
theorem load_x {n : ℕ} (inb : ∀ a, ![0, n, 0] a + ![256, 1, 128] a ≤ S256x16x128.size a) (i : Fin 16) (hi : i.val = n)
    (r : Fin 256) (f : Fin 128) :
    View.ld (Val := Elt Ideal) (e' := .f32) x0 (Rect.unit ![0, n, 0] ![256, 1, 128] inb) (ix3 r (0 : Fin 1) f) = x0 (ix3 r i f) :=
  View.ld_unit_apply_of (Val := Elt Ideal) (e := .f32) x0 ![0, n, 0] ![256, 1, 128] inb (ix3 r (0 : Fin 1) f) (ix3 r i f) (fun a => match a with
    | ⟨0, _⟩ => by show r.val = 0 + r.val; omega
    | ⟨1, _⟩ => by show i.val = n + 0; omega
    | ⟨2, _⟩ => by show f.val = 0 + f.val; omega)

/-- A load of one index's stacked weights. -/
theorem load_g {n : ℕ} (inb : ∀ a, ![n, 0, 0] a + ![1, 128, 416] a ≤ S16x128x416.size a) (i : Fin 16) (hi : i.val = n)
    (f : Fin 128) (j : Fin 416) :
    View.ld (Val := Elt Ideal) (e' := .f32) x1 (Rect.unit ![n, 0, 0] ![1, 128, 416] inb) (ix3 (0 : Fin 1) f j) = x1 (ix3 i f j) :=
  View.ld_unit_apply_of (Val := Elt Ideal) (e := .f32) x1 ![n, 0, 0] ![1, 128, 416] inb (ix3 (0 : Fin 1) f j) (ix3 i f j) (fun a => match a with
    | ⟨0, _⟩ => by show i.val = n + 0; omega
    | ⟨1, _⟩ => by show f.val = 0 + f.val; omega
    | ⟨2, _⟩ => by show j.val = 0 + j.val; omega)

/-- A load of one index's bias. -/
theorem load_b {n : ℕ} (inb : ∀ a, ![n, 0] a + ![1, 128] a ≤ S16x128.size a) (i : Fin 16) (hi : i.val = n) (k : Fin 128) :
    View.ld (Val := Elt Ideal) (e' := .f32) x2 (Rect.unit ![n, 0] ![1, 128] inb) (ix2 (0 : Fin 1) k) = x2 (ix2 i k) :=
  View.ld_unit_apply_of (Val := Elt Ideal) (e := .f32) x2 ![n, 0] ![1, 128] inb (ix2 (0 : Fin 1) k) (ix2 i k) (fun a => match a with
    | ⟨0, _⟩ => by show i.val = n + 0; omega
    | ⟨1, _⟩ => by show k.val = 0 + k.val; omega)

/-- One index's block of `h0` at its place in the window. -/
theorem piece_h0 {n : ℕ} (inb : ∀ a, ![0, n, 0] a + ![256, 1, 128] a ≤ S256x16x128.size a)
    (inb' : ∀ a, ![n, 0, 0] a + ![1, 128, 416] a ≤ S16x128x416.size a)
    (x : S256x1x128.Idx) (b : Fin 256) (i : Fin 16) (k : Fin 128)
    (h0 : b.val = (x 0).val) (h1 : i.val = n + (x 1).val) (h2 : k.val = (x 2).val) :
    k1_pay2 (F := Ideal) (View.ld (Val := Elt Ideal) (e' := .f32) x0 (Rect.unit ![0, n, 0] ![256, 1, 128] inb))
      (View.ld (Val := Elt Ideal) (e' := .f32) x1 (Rect.unit ![n, 0, 0] ![1, 128, 416] inb')) x = mixed (n := 256) x0 x1 b i (col 0 k) := by
  have hx : (x 1).val < 1 := (x 1).isLt
  obtain ⟨u, rfl⟩ : ∃ u : Fin 1, x = ix3 b u k := ⟨x 1, ix3_of_vals x h0.symm rfl h2.symm⟩
  exact store_h0 i x0 x1 _ _ (load_x x0 inb i (by omega)) (load_g x1 inb' i (by omega)) b u k

/-- One index's block of `h1` at its place in the window. -/
theorem piece_h1 {n : ℕ} (inb : ∀ a, ![0, n, 0] a + ![256, 1, 128] a ≤ S256x16x128.size a)
    (inb' : ∀ a, ![n, 0, 0] a + ![1, 128, 416] a ≤ S16x128x416.size a)
    (x : S256x1x128.Idx) (b : Fin 256) (i : Fin 16) (k : Fin 128)
    (h0 : b.val = (x 0).val) (h1 : i.val = n + (x 1).val) (h2 : k.val = (x 2).val) :
    k1_pay3 (F := Ideal) (View.ld (Val := Elt Ideal) (e' := .f32) x0 (Rect.unit ![0, n, 0] ![256, 1, 128] inb))
      (View.ld (Val := Elt Ideal) (e' := .f32) x1 (Rect.unit ![n, 0, 0] ![1, 128, 416] inb')) x = mixed (n := 256) x0 x1 b i (col 128 k) := by
  have hx : (x 1).val < 1 := (x 1).isLt
  obtain ⟨u, rfl⟩ : ∃ u : Fin 1, x = ix3 b u k := ⟨x 1, ix3_of_vals x h0.symm rfl h2.symm⟩
  exact store_h1 i x0 x1 _ _ (load_x x0 inb i (by omega)) (load_g x1 inb' i (by omega)) b u k

/-- One index's block of `hid` at its place in the window. -/
theorem piece_hid {n : ℕ} (inb : ∀ a, ![0, n, 0] a + ![256, 1, 128] a ≤ S256x16x128.size a)
    (inb' : ∀ a, ![n, 0, 0] a + ![1, 128, 416] a ≤ S16x128x416.size a)
    (x : S256x1x32.Idx) (b : Fin 256) (i : Fin 16) (k : Fin 32)
    (h0 : b.val = (x 0).val) (h1 : i.val = n + (x 1).val) (h2 : k.val = (x 2).val) :
    k1_pay4 (F := Ideal) (View.ld (Val := Elt Ideal) (e' := .f32) x0 (Rect.unit ![0, n, 0] ![256, 1, 128] inb))
      (View.ld (Val := Elt Ideal) (e' := .f32) x1 (Rect.unit ![n, 0, 0] ![1, 128, 416] inb')) x = mixed (n := 256) x0 x1 b i (col 384 k) := by
  have hx : (x 1).val < 1 := (x 1).isLt
  obtain ⟨u, rfl⟩ : ∃ u : Fin 1, x = ix3 b u k := ⟨x 1, ix3_of_vals x h0.symm rfl h2.symm⟩
  exact store_hid i x0 x1 _ _ (load_x x0 inb i (by omega)) (load_g x1 inb' i (by omega)) b u k

/-- One index's block of `pre` at its place in the window. -/
theorem piece_pre {n : ℕ} (inb : ∀ a, ![0, n, 0] a + ![256, 1, 128] a ≤ S256x16x128.size a)
    (inb' : ∀ a, ![n, 0, 0] a + ![1, 128, 416] a ≤ S16x128x416.size a) (inb'' : ∀ a, ![n, 0] a + ![1, 128] a ≤ S16x128.size a)
    (x : S256x1x128.Idx) (b : Fin 256) (i : Fin 16) (k : Fin 128)
    (h0 : b.val = (x 0).val) (h1 : i.val = n + (x 1).val) (h2 : k.val = (x 2).val) :
    k1_pay5 (F := Ideal) (View.ld (Val := Elt Ideal) (e' := .f32) x0 (Rect.unit ![0, n, 0] ![256, 1, 128] inb))
      (View.ld (Val := Elt Ideal) (e' := .f32) x1 (Rect.unit ![n, 0, 0] ![1, 128, 416] inb')) (View.ld (Val := Elt Ideal) (e' := .f32) x2 (Rect.unit ![n, 0] ![1, 128] inb'')) x = mixed (n := 256) x0 x1 b i (col 256 k) + x2 (ix2 i k) := by
  have hx : (x 1).val < 1 := (x 1).isLt
  obtain ⟨u, rfl⟩ : ∃ u : Fin 1, x = ix3 b u k := ⟨x 1, ix3_of_vals x h0.symm rfl h2.symm⟩
  exact store_pre i x0 x1 x2 _ _ _ (load_x x0 inb i (by omega)) (load_g x1 inb' i (by omega)) (load_b x2 inb'' i (by omega)) b u k

end Pieces

section
variable (c : Dev nD) (i : grid1.Coords) (arg1 : Memref sig .tc .vmem S256x16x128 .f32) (harg1 : arg1.IsWhole) (arg2 : Memref sig .tc .vmem S16x128x416 .f32) (harg2 : arg2.IsWhole) (arg3 : Memref sig .tc .vmem S16x128 .f32) (harg3 : arg3.IsWhole) (arg4 : Memref sig .tc .vmem S256x16x128 .f32) (harg4 : arg4.IsWhole) (arg5 : Memref sig .tc .vmem S256x16x128 .f32) (harg5 : arg5.IsWhole) (arg6 : Memref sig .tc .vmem S256x16x128 .f32) (harg6 : arg6.IsWhole) (arg7 : Memref sig .tc .vmem S256x16x32 .f32) (harg7 : arg7.IsWhole) (arg8 : Memref sig .tc .vmem S256x16x128 .f32) (harg8 : arg8.IsWhole)
    (x0 : Vec Ideal S256x16x128 .f32) (x1 : Vec Ideal S16x128x416 .f32) (x2 : Vec Ideal S16x128 .f32)

set_option maxHeartbeats 4000000 in
/-- What the body leaves in the window of `h0`, at an index. -/
theorem out_h0 (y : S256x16x128.Idx) :
    out1_A_4 c i arg1 harg1 arg2 harg2 arg3 harg3 arg4 harg4 arg5 harg5 arg6 harg6 arg7 harg7 arg8 harg8 x0 x1 x2 y = mixed (n := 256) x0 x1 (y 0) (y 1) (col 0 (w := 128) (y 2)) := by
  frame_out
  canon_tiles x h
  all_goals refine piece_h0 x0 x1 _ _ x _ _ _ ?_ ?_ ?_ <;> omega

set_option maxHeartbeats 4000000 in
/-- What the body leaves in the window of `h1`, at an index. -/
theorem out_h1 (y : S256x16x128.Idx) :
    out1_A_5 c i arg1 harg1 arg2 harg2 arg3 harg3 arg4 harg4 arg5 harg5 arg6 harg6 arg7 harg7 arg8 harg8 x0 x1 x2 y = mixed (n := 256) x0 x1 (y 0) (y 1) (col 128 (w := 128) (y 2)) := by
  frame_out
  canon_tiles x h
  all_goals refine piece_h1 x0 x1 _ _ x _ _ _ ?_ ?_ ?_ <;> omega

set_option maxHeartbeats 4000000 in
/-- What the body leaves in the window of `hid`, at an index. -/
theorem out_hid (y : S256x16x32.Idx) :
    out1_A_6 c i arg1 harg1 arg2 harg2 arg3 harg3 arg4 harg4 arg5 harg5 arg6 harg6 arg7 harg7 arg8 harg8 x0 x1 x2 y = mixed (n := 256) x0 x1 (y 0) (y 1) (col 384 (w := 32) (y 2)) := by
  frame_out
  canon_tiles x h
  all_goals refine piece_hid x0 x1 _ _ x _ _ _ ?_ ?_ ?_ <;> omega

set_option maxHeartbeats 4000000 in
/-- What the body leaves in the window of `pre`, at an index. -/
theorem out_pre (y : S256x16x128.Idx) :
    out1_A_7 c i arg1 harg1 arg2 harg2 arg3 harg3 arg4 harg4 arg5 harg5 arg6 harg6 arg7 harg7 arg8 harg8 x0 x1 x2 y = mixed (n := 256) x0 x1 (y 0) (y 1) (col 256 (w := 128) (y 2)) + x2 (ix2 (n0 := 16) (n1 := 128) (y 1) (y 2)) := by
  frame_out
  canon_tiles x h
  all_goals refine piece_pre x0 x1 x2 _ _ _ x _ _ _ ?_ ?_ ?_ <;> omega

set_option maxHeartbeats 4000000 in
/-- What the body leaves in the first output window, at an index. -/
theorem out_out (y : S256x16x128.Idx) :
    out1_A_3 c i arg1 harg1 arg2 harg2 arg3 harg3 arg4 harg4 arg5 harg5 arg6 harg6 arg7 harg7 arg8 harg8 x0 x1 x2 y =
      max (mixed (n := 256) x0 x1 (y 0) (y 1) (col 256 (w := 128) (y 2)) + x2 (ix2 (n0 := 16) (n1 := 128) (y 1) (y 2))) 0 := by
  frame_out
  unfold k1_pay98
  pointwise
  rw [View.readCov_eq_canon']
  generalize hL : View.canon (Val := Elt Ideal) _ = P
  refine congrArg (fun v : EReal => max v 0) ((View.ld_unit_apply_of (Val := Elt Ideal) (e := .f32) P ![0, 0, 0] ![256, 16, 128]
    inb_S256x16x128_S256x16x128_0_0_0 y y (fun a => match a with
      | ⟨0, _⟩ => (Nat.zero_add _).symm
      | ⟨1, _⟩ => (Nat.zero_add _).symm
      | ⟨2, _⟩ => (Nat.zero_add _).symm)).trans ?_)
  subst hL
  canon_tiles x h
  all_goals refine piece_pre x0 x1 x2 _ _ _ x _ _ _ ?_ ?_ ?_ <;> omega
end

/-! ## The arrays -/

/-- Rows of `h0` over the whole batch. -/
abbrev H0 (X : S8192x16x128.Idx → EReal) (G : S16x128x416.Idx → EReal) (y : S8192x16x128.Idx) : EReal :=
  mixed (n := 8192) X G (y 0) (y 1) (col 0 (w := 128) (y 2))

/-- Rows of `h1` over the whole batch. -/
abbrev H1 (X : S8192x16x128.Idx → EReal) (G : S16x128x416.Idx → EReal) (y : S8192x16x128.Idx) : EReal :=
  mixed (n := 8192) X G (y 0) (y 1) (col 128 (w := 128) (y 2))

/-- Rows of the hidden array over the whole batch. -/
abbrev Hid (X : S8192x16x128.Idx → EReal) (G : S16x128x416.Idx → EReal) (y : S8192x16x32.Idx) : EReal :=
  mixed (n := 8192) X G (y 0) (y 1) (col 384 (w := 32) (y 2))

/-- Rows before the rectifier over the whole batch. -/
abbrev Pre (X : S8192x16x128.Idx → EReal) (G : S16x128x416.Idx → EReal) (b : S16x128.Idx → EReal) (y : S8192x16x128.Idx) : EReal :=
  mixed (n := 8192) X G (y 0) (y 1) (col 256 (w := 128) (y 2)) + b (ix2 (n0 := 16) (n1 := 128) (y 1) (y 2))

section
variable (V : (c : Dev nD) → (b : Ref sig .tc) → Buf (Elt Ideal) ((c : Thread nD τ).loc b)) (c : Dev nD)

/-- The input windows' block indices. -/
theorem idx : ∀ t : Fin cfg1.N, win1_0.index t = ![t.val, 0, 0] ∧ win1_1.index t = ![0, 0, 0] ∧ win1_2.index t = ![0, 0] :=
  (by decide +kernel : ∀ t : Fin grid1.N, _)

/-- The weights' only block is the whole array. -/
theorem block_G (t : Fin cfg1.N) : (iblk1 V c 1 t : S16x128x416.Idx → EReal) = V c main_v0_1 := by
  funext x
  blk_ext [iblk1, idx t]

/-- The bias's only block is the whole array. -/
theorem block_b (t : Fin cfg1.N) : (iblk1 V c 2 t : S16x128.Idx → EReal) = V c main_arg3 := by
  funext x
  blk_ext [iblk1, idx t]

/-- A block of the features at its place in the array. -/
theorem block_X (t : Fin cfg1.N) (r : Fin 256) (i : Fin 16) (f : Fin 128) (b : Fin 8192) (h : b.val = t.val * 256 + r.val) :
    (iblk1 V c 0 t : S256x16x128.Idx → EReal) (ix3 r i f) = (V c main_arg0 : S8192x16x128.Idx → EReal) (ix3 b i f) := by
  blk_ext [iblk1, idx t]

/-- A block's row times a column of the weights, at its place in the batch. -/
theorem mixed_block (t : Fin cfg1.N) (r : Fin 256) (i : Fin 16) (j : Fin 416) (b : Fin 8192) (h : b.val = t.val * 256 + r.val) :
    mixed (n := 256) (iblk1 V c 0 t) (iblk1 V c 1 t) r i j = mixed (n := 8192) (V c main_arg0) (V c main_v0_1) b i j := by
  unfold mixed
  rw [block_G]
  exact Finset.sum_congr rfl fun f _ => by rw [block_X V c t r i f b h]

/-- The output windows' block indices. -/
theorem idx_out : ∀ t : Fin cfg1.N, win1_3.index t = ![t.val, 0, 0] ∧ win1_4.index t = ![t.val, 0, 0] ∧ win1_5.index t = ![t.val, 0, 0] ∧
    win1_6.index t = ![t.val, 0, 0] ∧ win1_7.index t = ![t.val, 0, 0] :=
  (by decide +kernel : ∀ t : Fin grid1.N, _)

/-- Row `r` of the batch block at a point. -/
def row (t : Fin cfg1.N) (r : Fin 256) : Fin 8192 := ⟨t.val * 256 + r.val, by have h : t.val < grid1.N := t.isLt; rw [N_1] at h; omega⟩

/-- What a point leaves in the window of `out`. -/
theorem outs_out (t : Fin cfg1.N) (y : S256x16x128.Idx) : (outsAt1 V c t).1 y =
    max (mixed (n := 8192) (V c main_arg0) (V c main_v0_1) (row t (y 0)) (y 1) (col 256 (w := 128) (y 2)) + (V c main_arg3 : S16x128.Idx → EReal) (ix2 (n0 := 16) (n1 := 128) (y 1) (y 2))) 0 := by
  have h := out_out c (cfg1.grid.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (iblk1 V c 0 t) (iblk1 V c 1 t) (iblk1 V c 2 t) y
  unfold outsAt1
  dsimp only
  exact h.trans (congrArg₂ (fun u v : EReal => max (u + v) 0) (mixed_block V c t (y 0) (y 1) (col 256 (w := 128) (y 2)) (row t (y 0)) rfl) (congrFun (block_b V c t) (ix2 (n0 := 16) (n1 := 128) (y 1) (y 2))))

/-- The first output array holds the rectified rows. -/
theorem array_out : (dat1 V c).arrAt 3 cfg1.N = fun y => max (Pre (V c main_arg0) (V c main_v0_1) (V c main_arg3) y) 0 := by
  refine (dat1 V c).arrAt_eq_of_covers 3 _ (by decide +kernel) fun t hf y => ?_
  blk_simp
  rw [after1_3]
  have he : (win1_3.blk t).view.emb y = ix3 (row t (y 0)) (y 1) (y 2) := by
    blk_ext [idx_out t, row]
  rw [he]
  exact outs_out V c t y

/-- What a point leaves in the window of `h0`. -/
theorem outs_h0 (t : Fin cfg1.N) (y : S256x16x128.Idx) : (outsAt1 V c t).2.1 y =
    mixed (n := 8192) (V c main_arg0) (V c main_v0_1) (row t (y 0)) (y 1) (col 0 (w := 128) (y 2)) := by
  have h := out_h0 c (cfg1.grid.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (iblk1 V c 0 t) (iblk1 V c 1 t) (iblk1 V c 2 t) y
  unfold outsAt1
  dsimp only
  exact h.trans (mixed_block V c t (y 0) (y 1) (col 0 (w := 128) (y 2)) (row t (y 0)) rfl)

/-- The second holds the rows of `h0`. -/
theorem array_h0 : (dat1 V c).arrAt 4 cfg1.N = H0 (V c main_arg0) (V c main_v0_1) := by
  refine (dat1 V c).arrAt_eq_of_covers 4 _ (by decide +kernel) fun t hf y => ?_
  blk_simp
  rw [after1_4]
  have he : (win1_4.blk t).view.emb y = ix3 (row t (y 0)) (y 1) (y 2) := by
    blk_ext [idx_out t, row]
  rw [he]
  exact outs_h0 V c t y

/-- What a point leaves in the window of `h1`. -/
theorem outs_h1 (t : Fin cfg1.N) (y : S256x16x128.Idx) : (outsAt1 V c t).2.2.1 y =
    mixed (n := 8192) (V c main_arg0) (V c main_v0_1) (row t (y 0)) (y 1) (col 128 (w := 128) (y 2)) := by
  have h := out_h1 c (cfg1.grid.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (iblk1 V c 0 t) (iblk1 V c 1 t) (iblk1 V c 2 t) y
  unfold outsAt1
  dsimp only
  exact h.trans (mixed_block V c t (y 0) (y 1) (col 128 (w := 128) (y 2)) (row t (y 0)) rfl)

/-- The third holds the rows of `h1`. -/
theorem array_h1 : (dat1 V c).arrAt 5 cfg1.N = H1 (V c main_arg0) (V c main_v0_1) := by
  refine (dat1 V c).arrAt_eq_of_covers 5 _ (by decide +kernel) fun t hf y => ?_
  blk_simp
  rw [after1_5]
  have he : (win1_5.blk t).view.emb y = ix3 (row t (y 0)) (y 1) (y 2) := by
    blk_ext [idx_out t, row]
  rw [he]
  exact outs_h1 V c t y

/-- What a point leaves in the window of `hid`. -/
theorem outs_hid (t : Fin cfg1.N) (y : S256x16x32.Idx) : (outsAt1 V c t).2.2.2.1 y =
    mixed (n := 8192) (V c main_arg0) (V c main_v0_1) (row t (y 0)) (y 1) (col 384 (w := 32) (y 2)) := by
  have h := out_hid c (cfg1.grid.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (iblk1 V c 0 t) (iblk1 V c 1 t) (iblk1 V c 2 t) y
  unfold outsAt1
  dsimp only
  exact h.trans (mixed_block V c t (y 0) (y 1) (col 384 (w := 32) (y 2)) (row t (y 0)) rfl)

/-- The fourth holds the hidden rows. -/
theorem array_hid : (dat1 V c).arrAt 6 cfg1.N = Hid (V c main_arg0) (V c main_v0_1) := by
  refine (dat1 V c).arrAt_eq_of_covers 6 _ (by decide +kernel) fun t hf y => ?_
  blk_simp
  rw [after1_6]
  have he : (win1_6.blk t).view.emb y = ix3 (row t (y 0)) (y 1) (y 2) := by
    blk_ext [idx_out t, row]
  rw [he]
  exact outs_hid V c t y

/-- What a point leaves in the window of `pre`. -/
theorem outs_pre (t : Fin cfg1.N) (y : S256x16x128.Idx) : (outsAt1 V c t).2.2.2.2 y =
    mixed (n := 8192) (V c main_arg0) (V c main_v0_1) (row t (y 0)) (y 1) (col 256 (w := 128) (y 2)) + (V c main_arg3 : S16x128.Idx → EReal) (ix2 (n0 := 16) (n1 := 128) (y 1) (y 2)) := by
  have h := out_pre c (cfg1.grid.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (iblk1 V c 0 t) (iblk1 V c 1 t) (iblk1 V c 2 t) y
  unfold outsAt1
  dsimp only
  exact h.trans (congrArg₂ (fun u v : EReal => u + v) (mixed_block V c t (y 0) (y 1) (col 256 (w := 128) (y 2)) (row t (y 0)) rfl) (congrFun (block_b V c t) (ix2 (n0 := 16) (n1 := 128) (y 1) (y 2))))

/-- The fifth holds the rows before the rectifier. -/
theorem array_pre : (dat1 V c).arrAt 7 cfg1.N = Pre (V c main_arg0) (V c main_v0_1) (V c main_arg3) := by
  refine (dat1 V c).arrAt_eq_of_covers 7 _ (by decide +kernel) fun t hf y => ?_
  blk_simp
  rw [after1_7]
  have he : (win1_7.blk t).view.emb y = ix3 (row t (y 0)) (y 1) (y 2) := by
    blk_ext [idx_out t, row]
  rw [he]
  exact outs_pre V c t y

end
end Cert.KernelIdeal.Fused

end
-- ==== Proof.Reference.lean ====
/- The reference's six results at an index, as sums. -/
module

public import proofs.«01_k».proof.Proof.Gen.ReferenceIdeal.Read
public import proofs.«01_k».proof.Proof.Index

@[expose] public section

noncomputable section

namespace Cert.ReferenceIdeal.Sums

open Idealize.ShloMosaic Idealize.ShloMosaic.TcCoe Idealize.SL.Sem
open Cert.ReferenceIdeal Cert.ReferenceIdeal.Gen Cert.ReferenceIdeal.Read Cert.Index

/-- Column `k` of matrix `i` divided by the square root of its sum of squares, at row `f`. -/
def nrm (A : S16x128x128.Idx → EReal) (i : Fin 16) (f k : Fin 128) : EReal :=
  Ideal.div (A (ix3 i f k)) (Ideal.sqrt (∑ g : Fin 128, A (ix3 i g k) * A (ix3 i g k)))

variable (X : S8192x16x128.Idx → EReal) (A : S16x128x128.Idx → EReal) (B : S16x128x32.Idx → EReal) (c : S16x128.Idx → EReal)

/-- The features through the scaled matrix. -/
def h0 (b : Fin 8192) (i : Fin 16) (k : Fin 128) : EReal := ∑ f : Fin 128, nrm A i f k * X (ix3 b i f)

/-- Those through `B`. -/
def hid (b : Fin 8192) (i : Fin 16) (h : Fin 32) : EReal := ∑ k : Fin 128, B (ix3 i k h) * h0 X A b i k

/-- And back through `B`. -/
def h1 (b : Fin 8192) (i : Fin 16) (k : Fin 128) : EReal := ∑ h : Fin 32, B (ix3 i k h) * hid X A B b i h

/-- And back through the scaled matrix, with the bias. -/
def pre (b : Fin 8192) (i : Fin 16) (f : Fin 128) : EReal := (∑ k : Fin 128, nrm A i f k * h1 X A B b i k) + c (ix2 i f)

/-- The zero word is zero. -/
theorem zero_word : (FloatOps.ofBits .f32 0x00000000#32 : Ideal .f32) = (0 : EReal) := by
  show Ideal.ofBits .f32 0x00000000#32 = (0 : EReal)
  simp [Ideal.ofBits, Ideal.ieee]

/-- The scaled matrix, at an index. -/
theorem nrm_eq (i : Fin 16) (f k : Fin 128) : val_main_v2 (F := Ideal) A (ix3 i f k) = nrm A i f k := by
  rw [val_main_v2_apply, val_main_v1_apply, val_main_v0_apply, val_main_call0_v2_apply, val_main_call0_v1_apply]
  simp only [val_main_call0_v0_apply, val_main_call0_cst_apply]
  have hg : ∀ g : Fin 128, idx_main_call0_v1 (idx_main_call0_v2 (idx_main_v1 (ix3 i f k))) g = ix3 i g k :=
    fun g => ix3_of_vals _ rfl rfl rfl
  simp only [hg, Ideal.hostDivf_def, Ideal.hostUnary_sqrt_def, Ideal.mulf_def, zero_word, zero_add]
  rfl

/-- The first mixed features, at an index. -/
theorem h0_eq (b : Fin 8192) (i : Fin 16) (k : Fin 128) : val_main_v4 (F := Ideal) X A (ix3 b i k) = h0 X A b i k := by
  rw [val_main_v4_apply, val_main_v3_apply]
  refine Finset.sum_congr rfl fun f _ => ?_
  rw [show lidx_main_v3 (idx_main_v4 (ix3 b i k)) f = ix3 i f k from ix3_of_vals _ rfl rfl rfl,
    show ridx_main_v3 (idx_main_v4 (ix3 b i k)) f = ix3 b i f from ix3_of_vals _ rfl rfl rfl, nrm_eq]

/-- The hidden array, at an index. -/
theorem hid_eq (b : Fin 8192) (i : Fin 16) (h : Fin 32) : val_main_v6 (F := Ideal) X A B (ix3 b i h) = hid X A B b i h := by
  rw [val_main_v6_apply, val_main_v5_apply]
  refine Finset.sum_congr rfl fun k _ => ?_
  rw [show lidx_main_v5 (idx_main_v6 (ix3 b i h)) k = ix3 i k h from ix3_of_vals _ rfl rfl rfl,
    show ridx_main_v5 (idx_main_v6 (ix3 b i h)) k = ix3 b i k from ix3_of_vals _ rfl rfl rfl, h0_eq]

/-- The second mixed features, at an index. -/
theorem h1_eq (b : Fin 8192) (i : Fin 16) (k : Fin 128) : val_main_v8 (F := Ideal) X A B (ix3 b i k) = h1 X A B b i k := by
  rw [val_main_v8_apply, val_main_v7_apply]
  refine Finset.sum_congr rfl fun h _ => ?_
  rw [show lidx_main_v7 (idx_main_v8 (ix3 b i k)) h = ix3 i k h from ix3_of_vals _ rfl rfl rfl,
    show ridx_main_v7 (idx_main_v8 (ix3 b i k)) h = ix3 b i h from ix3_of_vals _ rfl rfl rfl, hid_eq]

/-- The result before the rectifier, at an index. -/
theorem pre_eq (b : Fin 8192) (i : Fin 16) (f : Fin 128) : val_main_v13 (F := Ideal) X A B c (ix3 b i f) = pre X A B c b i f := by
  rw [val_main_v13_apply, val_main_v12_apply, val_main_v11_apply, val_main_v10_apply, val_main_v9_apply, Ideal.addf_def]
  rw [show idx_main_v11 (idx_main_v12 (ix3 b i f)) = ix2 i f from ix2_of_vals _ rfl rfl]
  refine congrArg (fun v : EReal => v + c (ix2 i f)) (Finset.sum_congr rfl fun k _ => ?_)
  rw [show lidx_main_v9 (idx_main_v10 (ix3 b i f)) k = ix3 i f k from ix3_of_vals _ rfl rfl rfl,
    show ridx_main_v9 (idx_main_v10 (ix3 b i f)) k = ix3 b i k from ix3_of_vals _ rfl rfl rfl, nrm_eq, h1_eq]

/-- The rectified result, at an index. -/
theorem out_eq (b : Fin 8192) (i : Fin 16) (f : Fin 128) : val_main_v14 (F := Ideal) X A B c (ix3 b i f) = max (pre X A B c b i f) 0 := by
  rw [val_main_v14_apply, pre_eq, val_main_call1_v0_apply, val_main_call1_cst_apply, Ideal.maximumf_def, zero_word]

end Cert.ReferenceIdeal.Sums

end
-- ==== Proof.Equation.lean ====
/- The equation: for real features and `B`, and columns of `A` with a positive sum of squares, the features times the
   stacked weights are the reference's sums. -/
module

public import proofs.«01_k».proof.Proof.Algebra
public import proofs.«01_k».proof.Proof.Weights
public import proofs.«01_k».proof.Proof.Fused
public import proofs.«01_k».proof.Proof.Reference

@[expose] public section

noncomputable section

namespace Cert.Equation

open Idealize.ShloMosaic
open Cert.KernelIdeal Cert.KernelIdeal.Weights Cert.KernelIdeal.Fused Cert.Algebra
open Cert.ReferenceIdeal.Sums (nrm h0 hid h1 pre)

/-- What the value claim asks of the features, the matrices and `B`. -/
structure Regular (X : S8192x16x128.Idx → EReal) (A : S16x128x128.Idx → EReal) (B : S16x128x32.Idx → EReal) : Prop where
  x : ∀ y, IsReal (X y)
  a : ∀ (i : Fin 16) (k : Fin 128), 0 < ∑ g : Fin 128, A (ix3 i g k) * A (ix3 i g k)
  b : ∀ y, IsReal (B y)

variable {X : S8192x16x128.Idx → EReal} {A : S16x128x128.Idx → EReal} {B : S16x128x32.Idx → EReal} (h : Regular X A B)
include h

/-- The two ways of scaling a column agree, -/
theorem nA_eq (i : Fin 16) (f k : Fin 128) : nA A i f k = nrm A i f k := (scale (fun g => A (ix3 i g k)) (h.a i k) f).1

/-- and give a real. -/
theorem nA_real (i : Fin 16) (f k : Fin 128) : IsReal (nA A i f k) := (scale (fun g => A (ix3 i g k)) (h.a i k) f).2

theorem gram_real (i : Fin 16) (k l : Fin 128) : IsReal (gram B i k l) := .sum fun _ => (h.b _).mul (h.b _)

theorem scaledGram_real (i : Fin 16) (f k : Fin 128) : IsReal (scaledGram A B i f k) :=
  .sum fun _ => (nA_real h _ _ _).mul (gram_real h _ _ _)

theorem narrow_real (i : Fin 16) (f : Fin 128) (j : Fin 32) : IsReal (narrow A B i f j) :=
  .sum fun _ => (nA_real h _ _ _).mul (h.b _)

/-- `h0` through the scaled matrix. -/
theorem h0_eq (b : Fin 8192) (i : Fin 16) (k : Fin 128) : ∑ f : Fin 128, X (ix3 b i f) * nA A i f k = h0 X A b i k :=
  Finset.sum_congr rfl fun f _ => by rw [nA_eq h, mul_comm]

/-- The hidden array through the narrow weights. -/
theorem hid_eq (b : Fin 8192) (i : Fin 16) (j : Fin 32) : ∑ f : Fin 128, X (ix3 b i f) * narrow A B i f j = hid X A B b i j :=
  (row_through (fun _ => h.x _) (nA_real h i) (fun k => h.b (ix3 i k j))).symm.trans
    (Finset.sum_congr rfl fun k _ => by rw [h0_eq h])

/-- The narrow weights back through `B` are the scaled matrix times the Gram matrix. -/
theorem narrow_back (i : Fin 16) (f k : Fin 128) : ∑ j : Fin 32, narrow A B i f j * B (ix3 i k j) = scaledGram A B i f k :=
  assoc (nA_real h i f) (fun l j => h.b (ix3 i l j)) (fun j => h.b (ix3 i k j))

/-- `h1` through the scaled Gram matrix. -/
theorem h1_eq (b : Fin 8192) (i : Fin 16) (k : Fin 128) : ∑ f : Fin 128, X (ix3 b i f) * scaledGram A B i f k = h1 X A B b i k :=
  calc _ = ∑ f : Fin 128, X (ix3 b i f) * ∑ j : Fin 32, narrow A B i f j * B (ix3 i k j) :=
        Finset.sum_congr rfl fun f _ => by rw [narrow_back h]
    _ = ∑ j : Fin 32, B (ix3 i k j) * ∑ f : Fin 128, X (ix3 b i f) * narrow A B i f j :=
        (row_through (fun _ => h.x _) (narrow_real h i) (fun j => h.b (ix3 i k j))).symm
    _ = _ := Finset.sum_congr rfl fun j _ => by rw [hid_eq h]

/-- The result before the bias through the full weights. -/
theorem full_eq (b : Fin 8192) (i : Fin 16) (f : Fin 128) :
    ∑ g : Fin 128, X (ix3 b i g) * full A B i g f = ∑ k : Fin 128, nrm A i f k * h1 X A B b i k :=
  (row_through (fun _ => h.x _) (scaledGram_real h i) (nA_real h i f)).symm.trans
    (Finset.sum_congr rfl fun k _ => by rw [h1_eq h, nA_eq h])

/-- The first 128 columns of the stacked weights give `h0`, -/
theorem mixed_h0 (b : Fin 8192) (i : Fin 16) (k : Fin 128) :
    mixed X (fun y : S16x128x416.Idx => stack A B (y 0) (y 1) (y 2)) b i (col 0 k) = h0 X A b i k :=
  (Finset.sum_congr rfl fun f _ => congrArg (X (ix3 b i f) * ·) (stack_nA A B i f (col 0 k) k (Nat.zero_add _))).trans (h0_eq h b i k)

/-- the next 128 give `h1`, -/
theorem mixed_h1 (b : Fin 8192) (i : Fin 16) (k : Fin 128) :
    mixed X (fun y : S16x128x416.Idx => stack A B (y 0) (y 1) (y 2)) b i (col 128 k) = h1 X A B b i k :=
  (Finset.sum_congr rfl fun f _ => congrArg (X (ix3 b i f) * ·) (stack_scaledGram A B i f (col 128 k) k rfl)).trans (h1_eq h b i k)

/-- the next 128 and the bias give the result before the rectifier, -/
theorem mixed_pre (c : S16x128.Idx → EReal) (b : Fin 8192) (i : Fin 16) (k : Fin 128) :
    mixed X (fun y : S16x128x416.Idx => stack A B (y 0) (y 1) (y 2)) b i (col 256 k) + c (ix2 i k) = pre X A B c b i k :=
  congrArg (fun v : EReal => v + c (ix2 i k)) ((Finset.sum_congr rfl fun f _ => congrArg (X (ix3 b i f) * ·)
    (stack_full A B i f (col 256 k) k rfl)).trans (full_eq h b i k))

/-- and the last 32 give the hidden array. -/
theorem mixed_hid (b : Fin 8192) (i : Fin 16) (j : Fin 32) :
    mixed X (fun y : S16x128x416.Idx => stack A B (y 0) (y 1) (y 2)) b i (col 384 j) = hid X A B b i j :=
  (Finset.sum_congr rfl fun f _ => congrArg (X (ix3 b i f) * ·) (stack_narrow A B i f (col 384 j) j rfl)).trans (hid_eq h b i j)

end Cert.Equation

end
-- ==== Proof.Precondition.lean ====
/- What the precondition says at the ideal instance: real features, real `B`, and positive sums of squares. -/
module

public import proofs.«01_k».proof.Proof.Gen.Pre_regular
public import proofs.«01_k».proof.Proof.Equation

@[expose] public section

noncomputable section

namespace Cert.Precondition

open Idealize.ShloMosaic Cert.Pre_regular Cert.Algebra Cert.Index

/-- The infinity word is the top. -/
theorem inf_word : (FloatOps.ofBits .f32 0x7F800000#32 : Ideal .f32) = (⊤ : EReal) := by
  show Ideal.ofBits .f32 0x7F800000#32 = (⊤ : EReal)
  simp [Ideal.ofBits, Ideal.ieee]

/-- A number whose absolute value is below the top is real. -/
theorem isReal_of_abs_lt {a : EReal} (h : Ideal.cmp .olt (max a (-a)) ⊤ = 1#1) : IsReal a := by
  induction a with
  | bot => simp [Ideal.cmp] at h
  | top => simp [Ideal.cmp] at h
  | coe r => exact ⟨r, rfl⟩

/-- A comparison that says a number is above zero. -/
theorem pos_of_cmp {s : EReal} (h : Ideal.cmp .ogt s 0 = 1#1) : 0 < s := by
  by_contra hs
  simp [Ideal.cmp, hs] at h

variable (X : S8192x16x128.Idx → EReal) (A : S16x128x128.Idx → EReal) (B : S16x128x32.Idx → EReal) (c : S16x128.Idx → EReal)

/-- The features are compared with infinity one by one, -/
theorem first (y : S8192x16x128.Idx) : (fn (F := Ideal) X A B c).1 y = Ideal.cmp .olt (max (X y) (-(X y))) ⊤ := by
  rw [← inf_word]; rfl

/-- the sums of squares with zero, -/
theorem second (i : Fin 16) (k : Fin 128) :
    (fn (F := Ideal) X A B c).2.1 (ix2 i k) = Ideal.cmp .ogt (∑ g : Fin 128, A (ix3 i g k) * A (ix3 i g k)) 0 := by
  have e : Ideal.hostReduceAdd Facts.reducesTo_S16x128x128_S16x128_d1 (fun y => A y * A y) 0 (ix2 i k)
      = ∑ g : Fin 128, A (ix3 i g k) * A (ix3 i g k) := by
    rw [Ideal.hostReduceAdd_single _ (by decide), zero_add]
    refine Finset.sum_congr rfl fun g _ => ?_
    exact congrArg (fun y => A y * A y) (ix3_of_vals _ rfl rfl rfl)
  rw [← e, ← Cert.ReferenceIdeal.Sums.zero_word]; rfl

/-- and `B` with infinity. -/
theorem third (y : S16x128x32.Idx) : (fn (F := Ideal) X A B c).2.2 y = Ideal.cmp .olt (max (B y) (-(B y))) ⊤ := by
  rw [← inf_word]; rfl

variable {X A B c}

/-- Where the precondition holds, the equation's hypotheses do. -/
theorem regular (h : (fn (F := Ideal) X A B c).1 = (fun _ => 1#1) ∧ (fn (F := Ideal) X A B c).2.1 = (fun _ => 1#1)
    ∧ (fn (F := Ideal) X A B c).2.2 = (fun _ => 1#1)) : Cert.Equation.Regular X A B where
  x y := isReal_of_abs_lt ((first X A B c y).symm.trans (congrFun h.1 y))
  a i k := pos_of_cmp ((second X A B c i k).symm.trans (congrFun h.2.1 (ix2 i k)))
  b y := isReal_of_abs_lt ((third X A B c y).symm.trans (congrFun h.2.2 y))

end Cert.Precondition

end
-- ==== Proof.Value.lean ====
/- The value claim: where the precondition holds, the idealized kernel and the reference leave the same six results. -/
module

public import proofs.«01_k».proof.Defs
public import proofs.«01_k».proof.Proof.Run
public import proofs.«01_k».proof.Proof.Precondition
public import Idealize.ShloMosaic.Lib.Quiescent

@[expose] public section

noncomputable section

namespace Cert.Value

open Idealize.ShloMosaic Idealize.ShloMosaic.TcCoe Idealize.SL.Sem
open Cert.KernelIdeal Cert.KernelIdeal.Gen Cert.KernelIdeal.Weights Cert.KernelIdeal.Fused Cert.Equation
open Cert.ReferenceIdeal.Read Cert.ReferenceIdeal.Sums

section Kernel
variable (m : (ℓ : Loc nD τ sig) → Buf (Elt Ideal) ℓ) (ρ : Dev nD → PrngReg) (c : Dev nD)

/-- The features, the matrices, `B` and the bias the launch starts from. -/
abbrev X : S8192x16x128.Idx → EReal := m ((c.tc : Thread nD τ).loc main_arg0)
abbrev A : S16x128x128.Idx → EReal := m ((c.tc : Thread nD τ).loc main_arg1)
abbrev B : S16x128x32.Idx → EReal := m ((c.tc : Thread nD τ).loc main_arg2)
abbrev bias : S16x128.Idx → EReal := m ((c.tc : Thread nD τ).loc main_arg3)

/-- The second region finds the stacked weights. -/
theorem weights : (V1 m ρ c main_v0_1 : S16x128x416.Idx → EReal) = fun y : S16x128x416.Idx => stack (A m c) (B m c) (y 0) (y 1) (y 2) :=
  (Result.V1_G m ρ c).trans (array_G (V0 m ρ) c)

theorem features : (V1 m ρ c main_arg0 : S8192x16x128.Idx → EReal) = X m c := Result.V1_x m ρ c

theorem biases : (V1 m ρ c main_arg3 : S16x128.Idx → EReal) = bias m c := Result.V1_b m ρ c

variable (h : Regular (X m c) (A m c) (B m c))
include h

/-- The kernel's first result is the reference's, -/
theorem out : (dat1 (V1 m ρ) c).arrAt 3 cfg1.N = val_main_v14 (F := Ideal) (X m c) (A m c) (B m c) (bias m c) := by
  refine (array_out (V1 m ρ) c).trans ?_
  rw [weights m ρ c, features m ρ c, biases m ρ c]
  funext y
  obtain ⟨b, i, k, rfl⟩ : ∃ (b : Fin 8192) (i : Fin 16) (k : Fin 128), y = ix3 b i k := ⟨y 0, y 1, y 2, Cert.Index.ix3_of_vals y rfl rfl rfl⟩
  exact (congrArg (fun v : EReal => max v 0) (mixed_pre h (bias m c) b i k)).trans (out_eq (X m c) (A m c) (B m c) (bias m c) b i k).symm

/-- its second, -/
theorem first : (dat1 (V1 m ρ) c).arrAt 4 cfg1.N = val_main_v4 (F := Ideal) (X m c) (A m c) := by
  refine (array_h0 (V1 m ρ) c).trans ?_
  rw [weights m ρ c, features m ρ c]
  funext y
  obtain ⟨b, i, k, rfl⟩ : ∃ (b : Fin 8192) (i : Fin 16) (k : Fin 128), y = ix3 b i k := ⟨y 0, y 1, y 2, Cert.Index.ix3_of_vals y rfl rfl rfl⟩
  exact (mixed_h0 h b i k).trans (Cert.ReferenceIdeal.Sums.h0_eq (X m c) (A m c) b i k).symm

/-- third, -/
theorem second : (dat1 (V1 m ρ) c).arrAt 5 cfg1.N = val_main_v8 (F := Ideal) (X m c) (A m c) (B m c) := by
  refine (array_h1 (V1 m ρ) c).trans ?_
  rw [weights m ρ c, features m ρ c]
  funext y
  obtain ⟨b, i, k, rfl⟩ : ∃ (b : Fin 8192) (i : Fin 16) (k : Fin 128), y = ix3 b i k := ⟨y 0, y 1, y 2, Cert.Index.ix3_of_vals y rfl rfl rfl⟩
  exact (mixed_h1 h b i k).trans (Cert.ReferenceIdeal.Sums.h1_eq (X m c) (A m c) (B m c) b i k).symm

/-- fourth, -/
theorem hidden : (dat1 (V1 m ρ) c).arrAt 6 cfg1.N = val_main_v6 (F := Ideal) (X m c) (A m c) (B m c) := by
  refine (array_hid (V1 m ρ) c).trans ?_
  rw [weights m ρ c, features m ρ c]
  funext y
  obtain ⟨b, i, k, rfl⟩ : ∃ (b : Fin 8192) (i : Fin 16) (k : Fin 32), y = ix3 b i k := ⟨y 0, y 1, y 2, Cert.Index.ix3_of_vals y rfl rfl rfl⟩
  exact (mixed_hid h b i k).trans (Cert.ReferenceIdeal.Sums.hid_eq (X m c) (A m c) (B m c) b i k).symm

/-- fifth -/
theorem before : (dat1 (V1 m ρ) c).arrAt 7 cfg1.N = val_main_v13 (F := Ideal) (X m c) (A m c) (B m c) (bias m c) := by
  refine (array_pre (V1 m ρ) c).trans ?_
  rw [weights m ρ c, features m ρ c, biases m ρ c]
  funext y
  obtain ⟨b, i, k, rfl⟩ : ∃ (b : Fin 8192) (i : Fin 16) (k : Fin 128), y = ix3 b i k := ⟨y 0, y 1, y 2, Cert.Index.ix3_of_vals y rfl rfl rfl⟩
  exact (mixed_pre h (bias m c) b i k).trans (pre_eq (X m c) (A m c) (B m c) (bias m c) b i k).symm

/-- and sixth. -/
theorem scaled : (dat0 (V0 m ρ) c).arrAt 2 cfg0.N = val_main_v2 (F := Ideal) (A m c) := by
  refine (array_nA (V0 m ρ) c).trans ?_
  funext y
  obtain ⟨i, f, k, rfl⟩ : ∃ (i : Fin 16) (f k : Fin 128), y = ix3 i f k := ⟨y 0, y 1, y 2, Cert.Index.ix3_of_vals y rfl rfl rfl⟩
  exact (nA_eq h i f k).trans (nrm_eq (A m c) i f k).symm

end Kernel

/-- `Cert.quiescent_ReferenceIdeal`: the reference terminates, leaves its arguments unchanged, and has no counter. -/
theorem quiescent_reference : Cert.quiescent_ReferenceIdeal := fun m ρ _ =>
  (θ_run Cert.ReferenceIdeal.defs _ _).mono (fun r h => ⟨fun c => (h c).2.2.2.2.2.2, sem_eq_zero_of_no_sems (by decide) r.2⟩)
    (Cert.ReferenceIdeal.Value.run (F := Ideal) m ρ)

/-- `Cert.algebraic_KernelIdeal_ReferenceIdeal_pre_regular`: the six results are the reference's. -/
theorem algebraic : Cert.algebraic_KernelIdeal_ReferenceIdeal_pre_regular := by
  intro m ρ m' ρ' hpre hagree
  refine ⟨fun c => val_main_v14 (F := Ideal) (X m c) (A m c) (B m c) (bias m c), fun c => val_main_v4 (F := Ideal) (X m c) (A m c),
    fun c => val_main_v8 (F := Ideal) (X m c) (A m c) (B m c), fun c => val_main_v6 (F := Ideal) (X m c) (A m c) (B m c),
    fun c => val_main_v13 (F := Ideal) (X m c) (A m c) (B m c) (bias m c), fun c => val_main_v2 (F := Ideal) (A m c), ?_, ?_⟩
  · refine (θ_run Cert.KernelIdeal.defs _ _).mono (fun r h c => ?_) (Result.run (F := Ideal) m ρ)
    have hr : Regular (X m c) (A m c) (B m c) := Cert.Precondition.regular (hpre c)
    obtain ⟨e0, e1, e2, e3, e4, e5, args⟩ := h c
    exact ⟨e0.trans (out m ρ c hr), e1.trans (first m ρ c hr), e2.trans (second m ρ c hr), e3.trans (hidden m ρ c hr),
      e4.trans (before m ρ c hr), e5.trans (scaled m ρ c hr), args⟩
  · refine (θ_run Cert.ReferenceIdeal.defs _ _).mono (fun r h c => ?_) (Cert.ReferenceIdeal.Value.run (F := Ideal) m' ρ')
    obtain ⟨e0, e1, e2, e3, e4, e5, args⟩ := h c
    obtain ⟨a0, a1, a2, a3⟩ := hagree c
    refine ⟨(e0.trans (val_main_v14_eq _ _ _ _)).trans ?_, (e1.trans (val_main_v4_eq _ _)).trans ?_, (e2.trans (val_main_v8_eq _ _ _)).trans ?_,
      (e3.trans (val_main_v6_eq _ _ _)).trans ?_, (e4.trans (val_main_v13_eq _ _ _ _)).trans ?_, (e5.trans (val_main_v2_eq _)).trans ?_, args⟩
    all_goals simp only [a0, a1, a2, a3]

end Cert.Value

end
-- ==== Proof.lean ====
/- The claim, assembled: the generated frames, the reference's run, and the value claim. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_regular
public import proofs.«01_k».proof.Proof.Value
public import Idealize.ShloMosaic.Adequacy
public import Idealize.ShloMosaic.Init

@[expose] public section

noncomputable section

namespace Cert.Proof

open Idealize.ShloMosaic Idealize.SL.Sem Cert.Kernel

/-- All the claims: the three programs terminate with arguments unchanged and counters at zero, the ideal kernel is the
    kernel's own text, and where the precondition holds its six results are the reference's. -/
theorem claim : Cert.Claim :=
  ⟨Cert.Kernel.Gen.facts, Cert.KernelIdeal.Gen.facts, Cert.ReferenceIdeal.Gen.facts, Cert.Pre_regular.Gen.facts,
    fun m ρ _ => Cert.Kernel.Gen.frame m ρ, fun m ρ _ => Cert.KernelIdeal.Gen.frame m ρ,
    fun m ρ _ => Cert.KernelIdeal.Gen.frame m ρ, Cert.Value.quiescent_reference,
    fun m ρ _ => Cert.Value.quiescent_reference m ρ trivial, trivial, Cert.Value.algebraic⟩

end Cert.Proof

end
